-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x128x128 : Shape := ⟨4, ![16, 64, 128, 128]⟩
abbrev S_ : Shape := ⟨0, ![]⟩
abbrev S16x8x64 : Shape := ⟨3, ![16, 8, 64]⟩
abbrev S1x64x128x128 : Shape := ⟨4, ![1, 64, 128, 128]⟩
abbrev S8x8x64 : Shape := ⟨3, ![8, 8, 64]⟩
abbrev S1x128x128 : Shape := ⟨3, ![1, 128, 128]⟩
abbrev S64x128 : Shape := ⟨2, ![64, 128]⟩
abbrev S64x128x128 : Shape := ⟨3, ![64, 128, 128]⟩
abbrev S64 : Shape := ⟨1, ![64]⟩
abbrev S1x64 : Shape := ⟨2, ![1, 64]⟩
abbrev S8x64 : Shape := ⟨2, ![8, 64]⟩
abbrev S1x8x64 : Shape := ⟨3, ![1, 8, 64]⟩
abbrev S16x1x64 : Shape := ⟨3, ![16, 1, 64]⟩
abbrev S16x64 : Shape := ⟨2, ![16, 64]⟩
abbrev S16x64x1 : Shape := ⟨3, ![16, 64, 1]⟩
abbrev S16x64x2 : Shape := ⟨3, ![16, 64, 2]⟩

abbrev nBuf : Space → Nat
  | .hbm => 21
  | .vmem => 8
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S_, .i32⟩
  | .hbm, ⟨3, _⟩ => ⟨S16x64x128x128, .f32⟩
  | .hbm, ⟨4, _⟩ => ⟨S16x8x64, .f32⟩
  | .hbm, ⟨5, _⟩ => ⟨S16x1x64, .f32⟩
  | .hbm, ⟨6, _⟩ => ⟨S16x64, .f32⟩
  | .hbm, ⟨7, _⟩ => ⟨S16x1x64, .f32⟩
  | .hbm, ⟨8, _⟩ => ⟨S16x64, .f32⟩
  | .hbm, ⟨9, _⟩ => ⟨S16x1x64, .f32⟩
  | .hbm, ⟨10, _⟩ => ⟨S16x64, .f32⟩
  | .hbm, ⟨11, _⟩ => ⟨S16x64x1, .f32⟩
  | .hbm, ⟨12, _⟩ => ⟨S16x64x1, .f32⟩
  | .hbm, ⟨13, _⟩ => ⟨S16x64x2, .f32⟩
  | .hbm, ⟨14, _⟩ => ⟨S16x1x64, .f32⟩
  | .hbm, ⟨15, _⟩ => ⟨S16x64, .f32⟩
  | .hbm, ⟨16, _⟩ => ⟨S16x1x64, .f32⟩
  | .hbm, ⟨17, _⟩ => ⟨S16x64, .f32⟩
  | .hbm, ⟨18, _⟩ => ⟨S16x64x1, .f32⟩
  | .hbm, ⟨19, _⟩ => ⟨S16x64x1, .f32⟩
  | .hbm, ⟨20, _⟩ => ⟨S16x64x2, .f32⟩
  | .local _ .vmem, ⟨0, _⟩ => ⟨S1x64x128x128, .f32⟩
  | .local _ .vmem, ⟨1, _⟩ => ⟨S1x64x128x128, .f32⟩
  | .local _ .vmem, ⟨2, _⟩ => ⟨S1x64x128x128, .f32⟩
  | .local _ .vmem, ⟨3, _⟩ => ⟨S1x64x128x128, .f32⟩
  | .local _ .vmem, ⟨4, _⟩ => ⟨S1x64x128x128, .f32⟩
  | .local _ .vmem, ⟨5, _⟩ => ⟨S1x64x128x128, .f32⟩
  | .local _ .vmem, ⟨6, _⟩ => ⟨S8x8x64, .f32⟩
  | .local _ .vmem, ⟨7, _⟩ => ⟨S8x8x64, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_off1 (i : grid0.Coords) : Fin 3 → Nat :=
  let arg1 : BitVec 32 := BitVec.ofNat 32 (i 1).val
  let v46 : Index := Scalar.indexCast arg1
  let c0_20 : Index := 0#32
  let c0_21 : Index := 0#32
  ![v46.toNat, 0, 0]
def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S16x64x128x128 : Shape := ⟨4, ![16, 64, 128, 128]⟩
abbrev S_ : Shape := ⟨0, ![]⟩
abbrev S16x64 : Shape := ⟨2, ![16, 64]⟩
abbrev S128 : Shape := ⟨1, ![128]⟩
abbrev S16x64x128 : Shape := ⟨3, ![16, 64, 128]⟩
abbrev S16x64x1 : Shape := ⟨3, ![16, 64, 1]⟩
abbrev S16x64x2 : Shape := ⟨3, ![16, 64, 2]⟩

abbrev nBuf : Space → Nat
  | .hbm => 37
  | .vmem => 0
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S_, .i32⟩
  | .hbm, ⟨3, _⟩ => ⟨S16x64x128x128, .f32⟩
  | .hbm, ⟨4, _⟩ => ⟨S_, .f32⟩
  | .hbm, ⟨5, _⟩ => ⟨S16x64, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S16x64x128, .f32⟩
  | .hbm, ⟨10, _⟩ => ⟨S16x64, .f32⟩
  | .hbm, ⟨11, _⟩ => ⟨S_, .f32⟩
  | .hbm, ⟨12, _⟩ => ⟨S16x64x128, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S16x64x1, .f32⟩
  | .hbm, ⟨17, _⟩ => ⟨S16x64x1, .f32⟩
  | .hbm, ⟨18, _⟩ => ⟨S16x64x2, .f32⟩
  | .hbm, ⟨19, _⟩ => ⟨S16x64x2, .f32⟩
  | .hbm, ⟨20, _⟩ => ⟨S16x64x128x128, .f32⟩
  | .hbm, ⟨21, _⟩ => ⟨S_, .f32⟩
  | .hbm, ⟨22, _⟩ => ⟨S16x64, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S16x64x128, .f32⟩
  | .hbm, ⟨27, _⟩ => ⟨S16x64, .f32⟩
  | .hbm, ⟨28, _⟩ => ⟨S_, .f32⟩
  | .hbm, ⟨29, _⟩ => ⟨S16x64x128, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x64x1, .f32⟩
  | .hbm, ⟨34, _⟩ => ⟨S16x64x1, .f32⟩
  | .hbm, ⟨35, _⟩ => ⟨S16x64x2, .f32⟩
  | .hbm, ⟨36, _⟩ => ⟨S16x64x2, .f32⟩
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.Launch.lean ====
/-
  The launch of a pipelined region whose staged outputs are described by a RELATION, followed by host lines that
  read the region's arrays.

  A kernel that fills an output block a row at a time leaves, between two write-backs, a block whose unwritten rows
  hold whatever was there before. Its proof data are therefore relational: they say which contents a block MAY hold.
  Once the last block has been written back nothing is left open, and the relation allows each array one contents
  only. `run_pinned` uses that: given that the relation at the end allows only the named arrays `G`, the run ends
  with every array equal to its `G` and every other buffer at what the host lines compute from those arrays.
-/
module

public import Idealize.ShloMosaic.Lib.Pipeline.FrameSuffix

@[expose] public section

noncomputable section

namespace Cert.KernelIdeal.Launch

open Idealize.ShloMosaic Idealize.ShloMosaic.TcCoe Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- What a run with pinned arrays ends in: on every device each array of the pipeline holds `G`, and every buffer the
    pipeline does not stage holds what the host lines `ops` compute from the entry contents `V₀` with the arrays
    replaced by `G`. -/
def PinnedPost (cf : Cfg sig Λ₀) (V₀ : Dev nD → Valuation τ sig Val)
    (G : (c : Dev nD) → (w : Fin cf.W) → Buf Val ((cf.spec w).arr.view.loc (c.tc : Thread nD τ))) (ops : List (HloOp τ sig Val))
    (s : MemSt nD τ sig Val) : Prop :=
  ∀ c : Dev nD, (∀ w, s.mem ((cf.spec w).arr.view.loc (c.tc : Thread nD τ)) = G c w)
    ∧ ∀ b ∈ restRefsP sig Prefetch.none cf.spec, s.mem ((c.tc : Thread nD τ).loc b)
        = StableHlo.after ops (withArrays cf.spec c (V₀ c) (G c)) (Proc.devRef .tc b)

variable (cfgs : P → Cfg sig Λ₀) (p : P) (kit : LaunchFacts (nD := nD) (τ := τ) cfgs p)
  (defs₀ : Defs nD τ sig Val Λ₀) (𝒱₀ : Variants)

/-- The pipelines with no prefetched table. -/
local notation "pcs" => fun q => Cfg.toPCfg (Val := Val) (cfgs q)
local notation "adm" => fun q => Cfg.toPCfg_adm (Val := Val) (cfgs q)

/-- The arrays at the end of the region, out of the relational assertion: they hold some contents the relation allows,
    and those are `G`. -/
theorem arrays_of_pinned (rdat : (c : Dev nD) → RDat τ Val Unit ℕ (UR sig nD τ) ℕ (cfgs p) c)
    (G : (c : Dev nD) → (w : Fin (cfgs p).W) → Buf Val (((cfgs p).spec w).arr.view.loc (c.tc : Thread nD τ)))
    (hpin : ∀ c A, (∀ w, (rdat c).ArrAt w (cfgs p).N (A w)) → A = G c) (c : Dev nD) :
    ((rdat c).arraysAt (cfgs p).N : sProp 𝕄) ⊢ iprop(⌜∀ w, (rdat c).ArrAt w (cfgs p).N (G c w)⌝ ∗ (rdat c).arrays (G c)) := by
  unfold RDat.arraysAt
  iintro Ha
  ihave Ha1 := (BI.bigSep_exists_pi Finset.univ (fun w X => iprop(⌜(rdat c).ArrAt w (cfgs p).N X⌝
      ∗ ((cfgs p).win w).arr.view.loc (c.tc : Thread nD τ) ↦[((cfgs p).win w).arr.view.set]{(rdat c).share w} X))) $$ Ha
  icases Ha1 with ⟨%A, Ha⟩
  ihave Ha2 := (BI.bigSep_pure_sep Finset.univ (fun w => (rdat c).ArrAt w (cfgs p).N (A w))
      (fun w => ((cfgs p).win w).arr.view.loc (c.tc : Thread nD τ) ↦[((cfgs p).win w).arr.view.set]{(rdat c).share w} A w)) $$ Ha
  icases Ha2 with ⟨%hA, Ha⟩
  obtain rfl := hpin c A fun w => hA w (Finset.mem_univ w)
  isplitr
  · ipureintro; exact fun w => hA w (Finset.mem_univ w)
  unfold RDat.arrays
  iexact Ha

/-- The converse: arrays at contents the relation allows are the relational assertion. -/
theorem pinned_arrays (rdat : (c : Dev nD) → RDat τ Val Unit ℕ (UR sig nD τ) ℕ (cfgs p) c) (c : Dev nD)
    (A : (w : Fin (cfgs p).W) → Buf Val (((cfgs p).spec w).arr.view.loc (c.tc : Thread nD τ)))
    (hA : ∀ w, (rdat c).ArrAt w (cfgs p).N (A w)) :
    ((rdat c).arrays A : sProp 𝕄) ⊢ (rdat c).arraysAt (cfgs p).N := by
  unfold RDat.arraysAt RDat.arrays
  refine BI.bigSep_mono fun w _ => ?_
  show (((cfgs p).win w).arr.view.loc (c.tc : Thread nD τ) ↦[((cfgs p).win w).arr.view.set]{(rdat c).share w} A w : sProp 𝕄)
    ⊢ iprop(∃ X, ⌜(rdat c).ArrAt w (cfgs p).N X⌝ ∗ ((cfgs p).win w).arr.view.loc (c.tc : Thread nD τ) ↦[((cfgs p).win w).arr.view.set]{(rdat c).share w} X)
  iintro H
  iexists (A w)
  isplitr
  · ipureintro; exact hA w
  iexact H

include kit in
/-- THE RUN. From any memory with zero counters, a program that enters the pipelined region and goes on with the host
    lines `opss` terminates; at every final state each array holds `G`, every buffer outside the pipeline holds what
    the lines compute from those arrays, and every counter is zero. It asks for the body's obligation over the
    relational data (`hbody`), for `G` to be the only contents the relation allows after the last write-back
    (`hpin`), and for the lines to touch unscoped buffers only (`hsub`), allocate nothing (`hfresh`) and write no
    array (`hkeep`). -/
theorem run_pinned (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hΦ : ∀ c t, (rdat c).Φ t = ΦA (cfgs p).spec c)
    (G : (c : Dev nD) → (w : Fin (cfgs p).W) → Buf Val (((cfgs p).spec w).arr.view.loc (c.tc : Thread nD τ)))
    (hpin : ∀ c A, (∀ w, (rdat c).ArrAt w (cfgs p).N (A w)) → A = G c) :
    θ_run (Pipeline.defs (fun q => Cfg.toPCfg (Val := Val) (cfgs q)) defs₀) (onTc main) (s₀ m g)
      (fun r => PinnedPost (cfgs p) V₀ G opss.flatten r.2 ∧ r.2.sem = fun _ => 0) := by
  classical
  have hk1 : PLaunchFacts (nD := nD) (τ := τ) pcs p := kit.toP
  have hk : PLaunchFacts₀ (nD := nD) (τ := τ) pcs p := hk1.to₀
  have hq : ∀ c w, ((cfgs p).spec w).isOut = false → (rdat c).q w = shareOf (cfgs p).spec w := fun c w hw =>
    (rdat c).q_eq_shareOf_of_share_full hk1.win.arr_inj (hshare c) w hw
  exact RDat.θ_run_region_pf_tail_quiescent pcs adm (RDat.familyOf pcs adm p rdat) () (hk.cellOf_inj adm) p hk.win (OwnSemFacts.none (cfgs p).spec) hk.pre emb₁ defs₀ 𝒱₀ m g main
    (fun _ => chain (opss.map StableHlo.seq)) (fun c => by rw [RDat.familyOf_self]; exact hbody c)
    hk.block_pos hk.arr_whole hk.stage_whole (fun c t => by rw [RDat.familyOf_self]; exact howed c t)
    (G := fun _ => iprop(emp)) (u₀ := initOf (cells (pin pcs adm) (hk.cellOf_inj adm)) (launchToks (pin pcs adm) (hk.cellOf_inj adm)))
    (hu₀ := by
      iintro Hu; imodintro
      isplitl [Hu]
      · iapply (show (ownU _ : sProp 𝕄) ⊢ BI.own (emb₁ (initOf (cells (pin pcs adm) (hk.cellOf_inj adm)) (launchToks (pin pcs adm) (hk.cellOf_inj adm)))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => by
      rw [RDat.familyOf_self]
      exact (rdat c).arrays_split_shared hk.sharedIn hk.arr_whole (hq c) (fun b => V₀ c (Proc.devRef .tc b)) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => unscopedRestP (Ix := Unit) (Name := ℕ) (U := UR sig nD τ) (Lvl := ℕ) Prefetch.none (cfgs p).spec c
      (fun b => StableHlo.after opss.flatten (withArrays (cfgs p).spec c (V₀ c) (G c)) (Proc.devRef .tc b)))
    (hX := fun c => by
      iintro ⟨HU, -, -, Hp, -⟩; imodintro
      isplitl [Hp]
      · iexists _; iexact Hp
      iexact HU)
    (hin := fun c => by
      rw [RDat.familyOf_self, hΦ]
      unfold ΦA
      iintro ⟨Hp, -, Hr⟩
      isplitl [Hr] <;> iassumption)
    (hout := fun c => by
      rw [RDat.familyOf_self, hΦ, ownSems0_none]
      unfold ΦA
      iintro ⟨Hr, Hp⟩
      isplitl [Hp]; · iexact Hp
      isplitr; · iempintro
      iexact Hr)
    (htail := fun c Q' => by
      rw [RDat.familyOf_self]
      iintro ⟨Hk, Hb, Ha, HZ⟩
      ihave Ha1 := (arrays_of_pinned cfgs p rdat G hpin c) $$ Ha
      icases Ha1 with ⟨%hG, Ha⟩
      have hB : (rdat c).arrays (G c) = arrBufs (cfgs p).spec c (fun b => withArrays (cfgs p).spec c (V₀ c) (G c) (Proc.devRef .tc b)) :=
        ((rdat c).arrBufs_eq_arrays hk.sharedIn hk.arr_whole (hq c) _ (G c) fun w =>
          (withArrays_arr_shared (cfgs p).spec c (V₀ c) (G c) ((rdat c).ArrAt_sharedIn hk.sharedIn (V₀ c) (hA c) (cfgs p).N (G c) hG) w).symm).symm
      iapply (tail_seqs_bufs_b pcs defs₀ 𝒱₀ Prefetch.none (cfgs p).spec c (V₀ c) (G c) opss hsub hfresh hkeep Q')
      isplitl [Hk]
      · iintro ⟨Hb, Ha, Hu⟩
        iapply Hk
        isplitl [Hb]; · iexact Hb
        isplitl [Ha]
        · iapply (pinned_arrays cfgs p rdat c (G c) hG); iapply (Entails.of_eq hB.symm); iexact Ha
        iexact Hu
      isplitl [Hb]; · iexact Hb
      isplitl [Ha]
      · iapply (Entails.of_eq hB); iexact Ha
      iexact HZ)
    (QY := fun c s => ∀ b ∈ restRefsP sig Prefetch.none (cfgs p).spec, s.mem ((c.tc : Thread nD τ).loc b)
      = StableHlo.after opss.flatten (withArrays (cfgs p).spec c (V₀ c) (G c)) (Proc.devRef .tc b))
    (hY := fun c s' => by
      iintro ⟨-, HZ, HSI⟩
      unfold unscopedRestP
      ihave HZ1 := (pointsTo_read_all (restRefsP sig Prefetch.none (cfgs p).spec) (fun b => (c.tc : Thread nD τ).loc b) _ s') $$ [HZ HSI]
      · isplitl [HZ] <;> iassumption
      icases HZ1 with ⟨%hZ, HSI⟩
      imodintro
      isplitr
      · ipureintro; exact hZ
      iexact HSI)
    (hQ := fun s h hz => ⟨fun c => ⟨fun w =>
        congrFun (hpin c (fun w => s.mem (((cfgs p).spec w).arr.view.loc (c.tc : Thread nD τ)))
          (fun w => by simpa only [RDat.familyOf_self] using (h c).1 w)) w, (h c).2.2⟩, hz⟩)

end Cert.KernelIdeal.Launch

end
-- ==== Proof.Body.lean ====
/-
  What one grid point of the kernel does to its four staged blocks.
-/
module

public import proofs.«01_k».proof.Proof.Gen.KernelIdeal.Skeleton
public import proofs.«01_k».proof.Proof.Gen.KernelIdeal.Frame
public import Idealize.ShloMosaic.Lib.Pointwise
public import Idealize.ShloMosaic.Lib.WritesUnit
public import Idealize.ShloMosaic.Lib.VecWindow
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The eight rows of 64 numbers one grid point writes to the small output, from the point's two input blocks. -/
def rows (x0 x1 : FVec F S1x64x128x128 .f32) : FVec F S1x8x64 .f32 :=
  k0_pay1 (k0_pay7 x0) (k0_pay8 x0) (k0_pay9 x0) (k0_pay12 x1) (k0_pay13 x1) (k0_pay14 x1)

/-- The small output's staged block `y` with row `k` replaced by `r`. -/
def putRow (k : ℕ) (r : FVec F S1x8x64 .f32) (y : FVec F S8x8x64 .f32) : FVec F S8x8x64 .f32 := fun j =>
  if (j 0).val = k then r (ix3 (0 : Fin 1) (j 1) (j 2)) else y j

/-- A store at the run-time offset of row `i 1` into contents that read `y` leaves `y` with that row replaced. -/
theorem read_row_store (v : View sig .tc .vmem S8x8x64 .f32) (f : v.ty.Contents (Elt F)) (i : grid0.Coords)
    (inb : ∀ a, k0_off1 i a + S1x8x64.size a ≤ S8x8x64.size a) (r : FVec F S1x8x64 .f32) :
    v.read (Elt F) (v.writes (Elt F) f [⟨Rect.unit (k0_off1 i) S1x8x64.size inb, r⟩])
      = putRow (i 1).val r (v.read (Elt F) f) := by
  funext j
  unfold putRow
  by_cases h : (j 0).val = (i 1).val
  · rw [if_pos h]
    refine View.read_writes_cons_unit_of_mem v f inb r [] j (ix3 (0 : Fin 1) (j 1) (j 2)) (k0_off1_eq i) fun a => ?_
    fin_cases a
    · simpa using h
    · simp
    · simp
  · rw [if_neg h]
    exact View.read_writes_cons_unit_of_not_mem v f inb r [] j (k0_off1_eq i) (0 : Fin 3)
      (by show (j 0).val < (i 1).val ∨ (i 1).val + 1 ≤ (j 0).val; omega)

set_option maxHeartbeats 1000000 in
/-- ONE POINT: the input blocks are left alone; the map's block ends at the absolute values of the first; the small
    output's block keeps its contents but for row `i 1`, which ends at `rows`. -/
theorem run (c : Dev nD) (i : grid0.Coords) (arg2 : Memref sig .tc .vmem S1x64x128x128 .f32) (harg2 : arg2.IsWhole) (arg3 : Memref sig .tc .vmem S1x64x128x128 .f32) (harg3 : arg3.IsWhole) (arg4 : Memref sig .tc .vmem S1x64x128x128 .f32) (harg4 : arg4.IsWhole) (arg5 : Memref sig .tc .vmem S8x8x64 .f32) (harg5 : arg5.IsWhole)
    (x0 x1 : Vec F S1x64x128x128 .f32) (y : Vec F S8x8x64 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare y
        ∗ (iprop(owns (c : Thread nD τ) arg2 fullShare x0 ∗ owns (c : Thread nD τ) arg3 fullShare x1
            ∗ owns (c : Thread nD τ) arg4 fullShare (k0_pay5 x0)
            ∗ owns (c : Thread nD τ) arg5 fullShare (putRow (i 1).val (rows x0 x1) y)) -∗ K ⟨⟩))
      ⊢ wp frame (wpE (defs₀ (F := F)) Variants.none c none) E (cc0__kernel i arg2 harg2 arg3 harg3 arg4 harg4 arg5 harg5) K := by
  simp only [cc0__kernel_eq_skeleton]; unfold cc0__kernel_skel
  simp only [k0_part1_eq_skeleton]
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1
  obtain rfl := harg5.eq_unread hf3
  sl_exec
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr; swap
    · iexact H2
    ipureintro
    rw [View.read_writes_full, View.readAt_full, hf0]
  iexists _; isplitr; swap
  · iexact H3
  ipureintro
  refine (read_row_store _ _ _ _ _).trans ?_
  rw [hf3]
  refine congrArg (putRow (i 1).val · y) ?_
  have h0 : arg2.view.readAt (Elt F) (Rect.unit ![0, 0, 0, 0] S1x64x128x128.size inb_S1x64x128x128_S1x64x128x128_0_0_0_0).toLoadRect (harg2.unread x0) = x0 := by
    rw [View.readAt_full, hf0]
  have h1 : arg3.view.readAt (Elt F) (Rect.unit ![0, 0, 0, 0] S1x64x128x128.size inb_S1x64x128x128_S1x64x128x128_0_0_0_0).toLoadRect (harg3.unread x1) = x1 := by
    rw [View.readAt_full, hf1]
  exact congrArg₂ rows h0 h1

end Cert.KernelIdeal.Body

end
-- ==== Proof.Region.lean ====
/-
  The pipelined region: its proof data, the body's obligation at every grid point, and what its four arrays hold at
  the end.

  The small output's block has eight rows, one written by each of eight consecutive points, and is written back
  after the eighth. `RowsSoFar` says what is known of it after a point: the rows written so far.
-/
module

public import proofs.«01_k».proof.Proof.Body
public import Idealize.ShloMosaic.Lib.Pipeline.DatRel
public import Idealize.ShloMosaic.Lib.Pipeline.ArrRel

@[expose] public section

set_option maxRecDepth 16384

noncomputable section

namespace Cert.KernelIdeal.Region

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ)

/-- The grid has sixteen points. -/
theorem N_eq : cfg0.N = 16 := N_0

/-- The grid point that handles batch element `b`: points are numbered as batch elements are. -/
def pt (b : Fin 16) : Fin cfg0.N := ⟨b.val, by rw [N_eq]; exact b.isLt⟩

/-- The second grid coordinate of point `t` is `t` modulo 8. -/
theorem coord1 : ∀ t : Fin cfg0.N, (grid0.coords t 1).val = t.val % 8 :=
  (by decide +kernel : ∀ t : Fin grid0.N, (grid0.coords t 1).val = t.val % 8)

/-- The block index of each window at point `t`: the big arrays' block is `t`, the small output's `t / 8`. -/
theorem idx : ∀ t : Fin cfg0.N, win0_0.index t = ![t.val, 0, 0, 0] ∧ win0_1.index t = ![t.val, 0, 0, 0]
    ∧ win0_2.index t = ![t.val, 0, 0, 0] ∧ win0_3.index t = ![t.val / 8, 0, 0] :=
  (by decide +kernel : ∀ t : Fin grid0.N, win0_0.index t = ![t.val, 0, 0, 0] ∧ win0_1.index t = ![t.val, 0, 0, 0]
    ∧ win0_2.index t = ![t.val, 0, 0, 0] ∧ win0_3.index t = ![t.val / 8, 0, 0])

/-- The window whose block is built up row by row. -/
def byRow : Fin cfg0.W → Bool := fun w => w.val == 3

/-- The small output's array at the end: batch element `b`'s eight rows are what point `b` writes. -/
def small (c : Dev nD) : FVec F S16x8x64 .f32 := fun j =>
  rows (iblk m c 0 (pt (j 0))) (iblk m c 1 (pt (j 0))) (ix3 (0 : Fin 1) (j 1) (j 2))

/-- The batch element whose rows stand in row `r` of the small output's block at point `t`. -/
def elem (t : Fin cfg0.N) (r : Fin 8) : Fin 16 :=
  ⟨t.val / 8 * 8 + r.val, by have := lt_of_lt_of_eq t.isLt N_eq; have := r.isLt; omega⟩

/-- After point `t` the rows up to `t % 8` of the small output's block are the rows of their batch elements. -/
def RowsSoFar (c : Dev nD) (t : Fin cfg0.N) (X : FVec F S8x8x64 .f32) : Prop :=
  ∀ (r k : Fin 8) (ch : Fin 64), r.val ≤ t.val % 8 → X (ix3 r k ch) = small m c (ix3 (elem t r) k ch)

/-- The predicate each window built up row by row is held to; nothing is asked of the others here. -/
def Held (c : Dev nD) : (w : Fin cfg0.W) → Fin cfg0.N → ((cfg0.win w).block.Idx → Elt F (cfg0.win w).elt) → Prop
  | ⟨3, _⟩, t, X => RowsSoFar m c t X
  | ⟨0, _⟩, _, _ => True
  | ⟨1, _⟩, _, _ => True
  | ⟨2, _⟩, _, _ => True

/-- The proof data: the arrays as the region finds them; after each point the inputs' buffers at their blocks and the
    map's at the absolute values of the first input's block; the small output's is left to `Held`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay5 (iblk m c 0 t)
    | ⟨3, h⟩ => Pipeline.Dat.unnamed (cfg := cfg0) ⟨3, h⟩ t
  Φ _ := Pipeline.ΦA spec0 c
  q _ := fullShare
  owed _ := 0

/-- The same data read as a relation, the small output held to the rows written so far. -/
def rdat (c : Dev nD) : RDat τ (Elt F) Unit ℕ (UR sig nD τ) ℕ cfg0 c := (dat m c).toRRel byRow (Held m c)

theorem dat_A (c : Dev nD) (w : Fin cfg0.W) : (dat m c).A w = V m c (Pipeline.arrRef spec0 w) := by
  dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = k0_pay5 (iblk m c 0 t) := by dsimp only [dat]

/-- The first input's buffer holds its block when the body runs. -/
theorem before_0 (c : Dev nD) (t : Fin cfg0.N) (d) : (dat m c).before 0 t d = iblk m c 0 t :=
  before0_0_of m (dat m c) (dat_A m c 0) (after_0 m c) t d
/-- The second input's buffer holds its block when the body runs. -/
theorem before_1 (c : Dev nD) (t : Fin cfg0.N) (d) : (dat m c).before 1 t d = iblk m c 1 t :=
  before0_1_of m (dat m c) (dat_A m c 1) (after_1 m c) t d

/-- The small output is never fetched. -/
theorem fetch_3 : ∀ t : Fin cfg0.N, (cfg0.win 3).fetch t = false :=
  (by decide +kernel : ∀ t : Fin grid0.N, win0_3.fetch t = false)

/-- What the body finds in the small output's block: the rows of this group's earlier points. -/
theorem found_rows (c : Dev nD) (t : Fin cfg0.N) (Y : FVec F S8x8x64 .f32) (h : (rdat m c).Finds 3 t Y)
    (r k : Fin 8) (ch : Fin 64) (hr : r.val < t.val % 8) : Y (ix3 r k ch) = small m c (ix3 (elem t r) k ch) := by
  have h0 : t.val ≠ 0 := fun e => by rw [e] at hr; omega
  rcases ((rdat m c).finds_of_pos (fetch_3 t) h0 Y).mp h with hf | hL
  · have := (flush0_3 _).mp hf
    dsimp only at this
    omega
  · have hR : RowsSoFar m c ⟨t.val - 1, Nat.lt_of_le_of_lt (Nat.sub_le _ _) t.isLt⟩ Y :=
      (dat m c).toRRel_leaves (fgt := byRow) (Rl := Held m c) (w := 3) rfl hL
    rw [hR r k ch (by dsimp only; omega)]
    refine congrArg (fun b => small m c (ix3 b k ch)) (Fin.ext ?_)
    show (t.val - 1) / 8 * 8 + r.val = t.val / 8 * 8 + r.val
    omega

/-- One more row: the block found at point `t`, with row `t % 8` replaced by the point's own rows, has its rows up to
    `t % 8`. -/
theorem rows_step (c : Dev nD) (t : Fin cfg0.N) (Y : FVec F S8x8x64 .f32) (h : (rdat m c).Finds 3 t Y) :
    RowsSoFar m c t (putRow (grid0.coords t 1).val (rows (iblk m c 0 t) (iblk m c 1 t)) Y) := by
  intro r k ch hr
  unfold putRow
  rw [coord1]
  by_cases e : r.val = t.val % 8
  · rw [if_pos (by exact e)]
    have hp : pt (elem t r) = t := Fin.ext (by show t.val / 8 * 8 + r.val = t.val; omega)
    show rows (iblk m c 0 t) (iblk m c 1 t) (ix3 (0 : Fin 1) k ch) = rows (iblk m c 0 (pt (elem t r))) (iblk m c 1 (pt (elem t r))) (ix3 (0 : Fin 1) k ch)
    rw [hp]
  · rw [if_neg (by exact e)]
    exact found_rows m c t Y h r k ch (by omega)

/-! ## The body's obligation -/

/-- What the body is called with at point `t`, window by window. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ Y, ⌜(rdat m c).Finds 3 t Y⌝ ∗ owns (c : Thread nD τ) (st0_3 t) fullShare Y))

/-- What the body hands back at point `t`, window by window. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ (∃ X, ⌜Held m c 3 t X⌝ ∗ owns (c : Thread nD τ) (st0_3 t) fullShare X))

/-- The body at any point runs from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dat m c).Φ t.succ = (dat m c).Φ t.castSucc from rfl,
    show (dat m c).owesAt () t.succ = (dat m c).owesAt () t.castSucc from rfl,
    after_0, after_1, after_2]
  iintro ⟨HΦ, Ho, ⟨%d0, H0⟩, ⟨%d1, H1⟩, ⟨%d2, H2⟩, ⟨%Y, %hY, H3⟩⟩
  iapply (Body.run c (grid0.coords t) _ _ _ _ _ _ _ _ (iblk m c 0 t) (iblk m c 1 t) Y Set.univ _)
  isplitl [H0]; · iexact H0
  isplitl [H1]; · iexact H1
  isplitl [H2]; · iexists _; iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexists _
  isplitr; swap
  · iexact H3
  ipureintro
  exact rows_step m c t Y hY

/-- The body table's row at point `t` is the body there. -/
theorem body_row (t : Fin cfg0.N) :
    defs₀ (F := F) .tc cfg0.body (cfg0.bodyArgs t (cfg0.slots t)) = bodyAt0 t := by
  unfold defs₀; rw [Defs.onTc_tc]

/-- The obligation over the exact data with the small output held to its rows, -/
theorem obligation_rel (c : Dev nD) :
    BodyObligationRel (dat (F := F) m c) (defs₀ (F := F)) Variants.none () Set.univ byRow (Held m c) := fun t => by
  rw [bigSep_W0, bigSep_W0, body_row]
  exact triple_restated (sound_body m c t) rfl .rfl fun _ => .rfl

/-- and over the relational data. -/
theorem obligation (c : Dev nD) : (rdat (F := F) m c).BodyObligation (defs₀ (F := F)) Variants.none () Set.univ :=
  (obligation_rel m c).toRRel

/-! ## The arrays at the end -/

/-- The map's array at the end: the absolute values of the first argument. -/
def big (c : Dev nD) : FVec F S16x64x128x128 .f32 := absf (m ((c : Thread nD τ).loc main_arg0))

/-- What the four arrays hold at the end. -/
def final (c : Dev nD) : (w : Fin cfg0.W) → Buf (Elt F) ((cfg0.spec w).arr.view.loc (c.tc : Thread nD τ))
  | ⟨0, _⟩ => m ((c : Thread nD τ).loc main_arg0)
  | ⟨1, _⟩ => m ((c : Thread nD τ).loc main_arg1)
  | ⟨2, _⟩ => big m c
  | ⟨3, _⟩ => small m c

/-- What a point leaves of the map is its block of `big`. -/
theorem big_point (c : Dev nD) (t : Fin cfg0.N) (y) :
    k0_pay5 (iblk m c 0 t) y = big m c (((cfg0.win 2).blk t).view.emb y) := by
  pointwise [k0_pay5, k0_pay4, big]
  blk_point [iblk, V, idx t]

/-- Whatever exact data the relation allows, the map's array ends at `big`. -/
theorem final_2 (c : Dev nD) (d : Dat τ (Elt F) Unit ℕ (UR sig nD τ) ℕ cfg0 c)
    (h : ∀ t, d.after 2 t = k0_pay5 (iblk m c 0 t)) : d.arrAt 2 cfg0.N = big m c := by
  refine d.arrAt_eq_of_covers 2 _ (by decide +kernel) fun t _ y => ?_
  blk_simp
  rw [h]
  exact big_point m c t y

/-- Whatever exact data the relation allows, the small output's array ends at `small`. -/
theorem final_3 (c : Dev nD) (d : Dat τ (Elt F) Unit ℕ (UR sig nD τ) ℕ cfg0 c)
    (h : ∀ t, (cfg0.win 3).flush t = true → RowsSoFar m c t (d.after 3 t)) : d.arrAt 3 cfg0.N = small m c := by
  refine d.arrAt_eq_of_covers 3 _ (by decide +kernel) fun t hf y => ?_
  have hR := h t hf
  have h7 := (flush0_3 t).mp hf
  blk_simp
  refine ((congrArg (d.after 3 t) (eq_ix3 (n0 := 8) (n1 := 8) (n2 := 64) y)).trans
    (hR (y 0) (y 1) (y 2) (by have : (y 0).val < 8 := (y 0).isLt; omega))).trans ?_
  refine congrArg (small m c) (funext fun a => Fin.ext ?_)
  fin_cases a <;> blk_simp [idx t] <;> simp [elem]

/-- The relation allows one contents for each array after the last write-back. -/
theorem pinned (c : Dev nD) (A : (w : Fin cfg0.W) → Buf (Elt F) ((cfg0.spec w).arr.view.loc (c.tc : Thread nD τ)))
    (hA : ∀ w, (rdat m c).ArrAt w cfg0.N (A w)) : A = final m c := by
  obtain ⟨after, hL, hE⟩ := RDat.ArrAt.exists_exact_all hA
  funext w
  rw [hE w]
  match w with
  | ⟨0, _⟩ => exact (Dat.arrAt_in _ 0 rfl _).trans (dat_A m c 0)
  | ⟨1, _⟩ => exact (Dat.arrAt_in _ 1 rfl _).trans (dat_A m c 1)
  | ⟨2, _⟩ =>
    refine final_2 m c _ fun t => ?_
    obtain ⟨Y, -, hY⟩ := hL 2 t t.isLt (flush0_2 t)
    rw [rdat, (dat m c).toRRel_after_of_eq_false (fgt := byRow) (Rl := Held m c) (w := 2) rfl] at hY
    exact hY.trans (after_2 m c t)
  | ⟨3, _⟩ =>
    exact final_3 m c _ fun t hf => (dat m c).toRRel_leaves (fgt := byRow) (Rl := Held m c) (w := 3) rfl (hL 3 t t.isLt hf)

end Cert.KernelIdeal.Region

end
-- ==== Proof.Run.lean ====
/-
  The kernel's program, run whole: the region, then the host lines that cut the small output into the three remaining
  results.
-/
module

public import proofs.«01_k».proof.Proof.Launch
public import proofs.«01_k».proof.Proof.Region
public import Idealize.ShloMosaic.Lib.StableHlo.Run
public import Idealize.ShloMosaic.Lib.Pointwise

@[expose] public section

set_option maxRecDepth 16384

noncomputable section

namespace Cert.KernelIdeal.Run

open Cert.KernelIdeal Cert.KernelIdeal.Gen Cert.KernelIdeal.Region Cert.KernelIdeal.Launch
open Idealize.ShloMosaic Idealize.ShloMosaic.TcCoe Idealize.ShloMosaic.StableHlo
open Idealize.SL.Sem

variable {F : FTy → Type} [FloatOps F]

/-! ## The host lines -/

/-- Row `k` of every batch element of a small output `A`. -/
def rowOf (A : FVec F S16x8x64 .f32) (k : Fin 8) : FVec F S16x64 .f32 := fun j => A (ix3 (j 0) k (j 1))

/-- Rows `k` and `l` of every batch element of a small output `A`, side by side on a last axis of two. -/
def pairOf (A : FVec F S16x8x64 .f32) (k l : Fin 8) : FVec F S16x64x2 .f32 := fun j =>
  if (j 2).val < 1 then A (ix3 (j 0) k (j 1)) else A (ix3 (j 0) l (j 1))

/-- Two columns side by side on a last axis of two. -/
def side (a b : FVec F S16x64x1 .f32) : FVec F S16x64x2 .f32 :=
  concatenate S16x64x2 2 [⟨S16x64x1, a⟩, ⟨S16x64x1, b⟩] concatenates_S16x64x1_S16x64x1_S16x64x2_d2

/-- Two columns side by side, read at an index. -/
theorem side_at (a b : FVec F S16x64x1 .f32) (i : Fin 16) (j : Fin 64) (k : Fin 2) :
    side a b (ix3 i j k) = if k.val < 1 then a (ix3 i j 0) else b (ix3 i j 0) := by
  obtain rfl | rfl : k = 0 ∨ k = 1 := by omega
  · pointwise [side]
  · pointwise [side]

/-- A column made of a matrix, read at an index. -/
theorem col_at (x : FVec F S16x64 .f32) (i : Fin 16) (j : Fin 64) :
    broadcastInDim S16x64x1 ![0, 1] bcast_S16x64_S16x64x1_0_1 x (ix3 i j 0) = x (ix2 i j) := by
  pointwise

/-- Row `k` of the small output, cut out and flattened, read at an index. -/
theorem cut_at (A : FVec F S16x8x64 .f32) (k : Fin 8) (h : S16x8x64.Slices ![0, k.val, 0] S16x1x64) (i : Fin 16) (j : Fin 64) :
    shapeCast S16x64 (extractStridedSlice S16x1x64 ![0, k.val, 0] A h) shapeCasts_S16x1x64_S16x64 (ix2 i j)
      = A (ix3 i k j) := by
  pointwise

/-- The first result the lines compute, from any contents `W`: row 0 of the small output. -/
theorem after_v2 (W : Valuation τ sig (Elt F)) :
    StableHlo.after hostOps1 W (Proc.devRef .tc main_v2) = rowOf (W (Proc.devRef .tc main_v0_1)) 0 := by
  after_results_simp
  funext j
  idx_vars j
  exact cut_at _ 0 slices_S16x8x64_S16x1x64_0_0_0 j0 j1

/-- The second: rows 1 and 2. -/
theorem after_v9 (W : Valuation τ sig (Elt F)) :
    StableHlo.after hostOps1 W (Proc.devRef .tc main_v9) = pairOf (W (Proc.devRef .tc main_v0_1)) 1 2 := by
  have h : (fun a b : FVec F S16x64x1 .f32 => concatenate S16x64x2 2 [⟨S16x64x1, a⟩, ⟨S16x64x1, b⟩]
    concatenates_S16x64x1_S16x64x1_S16x64x2_d2) = side := rfl
  unfold hostOps1
  rw [h]
  after_results_simp
  funext j
  idx_vars j
  refine (side_at _ _ _ _ _).trans ?_
  exact congrArg₂ (fun x y => if (j2 : ℕ) < 1 then x else y)
    ((col_at _ j0 j1).trans (cut_at _ 1 slices_S16x8x64_S16x1x64_0_1_0 j0 j1))
    ((col_at _ j0 j1).trans (cut_at _ 2 slices_S16x8x64_S16x1x64_0_2_0 j0 j1))

/-- The third: rows 3 and 4. -/
theorem after_v16 (W : Valuation τ sig (Elt F)) :
    StableHlo.after hostOps1 W (Proc.devRef .tc main_v16) = pairOf (W (Proc.devRef .tc main_v0_1)) 3 4 := by
  have h : (fun a b : FVec F S16x64x1 .f32 => concatenate S16x64x2 2 [⟨S16x64x1, a⟩, ⟨S16x64x1, b⟩]
    concatenates_S16x64x1_S16x64x1_S16x64x2_d2) = side := rfl
  unfold hostOps1
  rw [h]
  after_results_simp
  funext j
  idx_vars j
  refine (side_at _ _ _ _ _).trans ?_
  exact congrArg₂ (fun x y => if (j2 : ℕ) < 1 then x else y)
    ((col_at _ j0 j1).trans (cut_at _ 3 slices_S16x8x64_S16x1x64_0_3_0 j0 j1))
    ((col_at _ j0 j1).trans (cut_at _ 4 slices_S16x8x64_S16x1x64_0_4_0 j0 j1))

/-- No line writes the third argument. -/
theorem after_arg2 (W : Valuation τ sig (Elt F)) :
    StableHlo.after hostOps1 W (Proc.devRef .tc main_arg2) = W (Proc.devRef .tc main_arg2) := by
  after_results_simp

/-! ## The run -/

variable (m : (ℓ : Loc nD τ sig) → Buf (Elt F) ℓ) (ρ : Dev nD → PrngReg)

set_option backward.isDefEq.respectTransparency.types false in
set_option maxHeartbeats 800000 in
/-- The launch theorem at this program. -/
theorem launched : θ_run defs (onTc (τ := τ) (main (F := F))) (s₀ m ρ)
    (fun r => PinnedPost (cfgs 0) (V0 m) (final m) hostOps1 r.2 ∧ r.2.sem = fun _ => 0) :=
  run_pinned cfgs (0 : Fin 1) launch0 defs₀ Variants.none (rdat m) m ρ main (obligation m)
    (hshare := fun c => (dat m c).share_full fun _ => rfl) (howed := fun _ _ => rfl) (V₀ := V0 m) (opss := [hostOps1])
    (hsub := sfx_sub) (hfresh := sfx_fresh) (hkeep := sfx_keeps) (hmain := hmain m Variants.none) (hA := dat_A m)
    (hΦ := fun _ _ => rfl) (G := final m) (hpin := pinned m)

/-- What the kernel's program ends in: the map, the two pairs and the sums of the first argument, the arguments as they
    were. -/
def Post (s : MemSt nD τ sig (Elt F)) : Prop := ∀ c : Dev nD,
  s.mem ((c.tc : Thread nD τ).loc main_v0_0) = big m c
  ∧ s.mem ((c.tc : Thread nD τ).loc main_v9) = pairOf (small m c) 1 2
  ∧ s.mem ((c.tc : Thread nD τ).loc main_v2) = rowOf (small m c) 0
  ∧ s.mem ((c.tc : Thread nD τ).loc main_v16) = pairOf (small m c) 3 4
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)

/-- The small output's array as the host lines find it. -/
theorem found_small (c : Dev nD) :
    Pipeline.withArrays spec0 c (V0 m c) (final m c) (Proc.devRef .tc main_v0_1) = small m c :=
  Pipeline.withArrays_arr spec0 launch0.win.arr_inj c (V0 m c) (final m c) 3

/-- The third argument as the host lines find it. -/
theorem found_arg2 (c : Dev nD) :
    Pipeline.withArrays spec0 c (V0 m c) (final m c) (Proc.devRef .tc main_arg2) = m ((c : Thread nD τ).loc main_arg2) :=
  (Pipeline.withArrays_of_ne spec0 c (V0 m c) _ main_arg2 (by exact (by decide : ∀ w, Pipeline.arrRef spec0 w ≠ main_arg2))).trans
    (V_main_arg2 m c)

/-- THE RUN: every weakly fair execution from zero counters ends in `Post`, every counter zero. -/
theorem run : θ_run defs (onTc (τ := τ) (main (F := F))) ⟨m, fun _ => 0, ρ⟩
    (fun r => Post m r.2 ∧ r.2.sem = fun _ => 0) :=
  (θ_run defs _ _).mono (fun r h => ⟨fun c => by
    obtain ⟨hA, hR⟩ := h.1 c
    refine ⟨hA 2, ?_, ?_, ?_, hA 0, hA 1, ?_⟩
    · rw [hR main_v9 (by decide +kernel)]
      exact (after_v9 _).trans (congrArg (pairOf · 1 2) (found_small m c))
    · rw [hR main_v2 (by decide +kernel)]
      exact (after_v2 _).trans (congrArg (rowOf · 0) (found_small m c))
    · rw [hR main_v16 (by decide +kernel)]
      exact (after_v16 _).trans (congrArg (pairOf · 3 4) (found_small m c))
    · rw [hR main_arg2 (by decide +kernel)]
      exact (after_arg2 _).trans (found_arg2 m c), h.2⟩) (launched m ρ)

end Cert.KernelIdeal.Run

end
-- ==== Proof.KernelFrame.lean ====
/-
  The kernel's frame. Nothing was idealized, so the kernel and its idealization are one text under two names; the run
  proved for the second, at any float values, is the run of the first.
-/
module

public import proofs.«01_k».proof.Defs
public import proofs.«01_k».proof.Proof.Gen.Kernel
public import proofs.«01_k».proof.Proof.Run

@[expose] public section

set_option maxRecDepth 16384

noncomputable section

namespace Cert.Kernel.Frame

open Cert.Kernel Cert.Kernel.Gen
open Idealize.ShloMosaic Idealize.ShloMosaic.TcCoe Idealize.SL.Sem

variable {F : FTy → Type} [FloatOps F]

/-- The two mains are one text. -/
theorem main_eq : Cert.Kernel.main (F := F) = Cert.KernelIdeal.main (F := F) := rfl

/-- So are the bodies. -/
theorem body_eq : Cert.Kernel.cc0__kernel (F := F) = Cert.KernelIdeal.cc0__kernel (F := F) := rfl

/-- So are the body tables. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- So are the tables of functions. -/
theorem defs_eq : Cert.Kernel.defs (F := F) = Cert.KernelIdeal.defs (F := F) :=
  congrArg (Pipeline.defs (Cert.KernelIdeal.pcfgs (F := F))) defs₀_eq

/-- The kernel runs to the end, leaves its arguments as they were and every counter at zero. -/
theorem frame : Cert.quiescent_Kernel (hKernel := Cert.Kernel.Gen.facts) := fun m g _ => by
  rw [defs_eq, main_eq]
  exact (θ_run Cert.KernelIdeal.defs _ _).mono
    (fun _ (h : Cert.KernelIdeal.Run.Post (F := Bits) m _ ∧ _) => ⟨fun c => (h.1 c).2.2.2.2, h.2⟩)
    (Cert.KernelIdeal.Run.run (F := Bits) m g)

end Cert.Kernel.Frame

end
-- ==== Proof.Centroid.lean ====
/-
  The mathematics of one plane of 128 by 128 numbers: the sum of the absolute values, and the centroid's two
  coordinates before rounding. Each is given in the order the reference takes its sums, and the order the kernel takes
  them in is shown to give the same extended real.
-/
module

public import Idealize.ShloMosaic.Lib.Pointwise

@[expose] public section

noncomputable section

namespace Cert.Centroid

open Idealize.ShloMosaic

/-! ## Sums in the extended reals -/

/-- A sum of numbers at or above zero, times any number, is the sum of the products. -/
theorem sum_mul_of_nonneg {ι : Type} (s : Finset ι) (f : ι → EReal) (hf : ∀ i, 0 ≤ f i) (a : EReal) :
    (∑ i ∈ s, f i) * a = ∑ i ∈ s, f i * a := by
  classical
  induction s using Finset.induction_on with
  | empty => simp
  | insert i s hi ih =>
    rw [Finset.sum_insert hi, Finset.sum_insert hi,
      EReal.right_distrib_of_nonneg (hf i) (Finset.sum_nonneg fun j _ => hf j), ih]

/-- Rows weighted by a number that depends on the row alone: the weight may be applied to every entry or to the row's
    sum, and rows or columns may be summed first. -/
theorem weighted_rows {n k : ℕ} (f : Fin n → Fin k → EReal) (hf : ∀ i j, 0 ≤ f i j) (a : Fin n → EReal) :
    (∑ j, ∑ i, f i j * a i) = ∑ i, (∑ j, f i j) * a i := by
  rw [Finset.sum_comm]
  exact Finset.sum_congr rfl fun i _ => (sum_mul_of_nonneg _ (f i) (hf i) (a i)).symm

/-- An absolute value is at or above zero. -/
theorem absf_nonneg (x : Ideal .f32) : (0 : EReal) ≤ FloatOps.absf x := by
  change (0 : EReal) ≤ max x (-x)
  rcases le_total (0 : EReal) x with h | h
  · exact le_max_of_le_left h
  · exact le_max_of_le_right (EReal.neg_nonneg.mpr h)

/-! ## A plane -/

/-- A position along an axis, as the number both programs multiply by. -/
def place (k : Fin 128) : EReal := FloatOps.sitofp (F := Ideal) FTy.f32 (BitVec.ofNat 32 k)

variable (p : Fin 128 → Fin 128 → Ideal .f32)

/-- The absolute value at row `h` and column `w` of the plane. -/
def mag (h w : Fin 128) : EReal := FloatOps.absf (p h w)

/-- The sum of the plane's absolute values. -/
def total : EReal := ∑ h, ∑ w, mag p h w

/-- The centroid's column before rounding. -/
def meanX : EReal := Ideal.div (∑ w, (∑ h, mag p h w) * place w) (total p)

/-- The centroid's row before rounding. -/
def meanY : EReal := Ideal.div (∑ h, (∑ w, mag p h w) * place h) (total p)

/-- The sum taken columns first is the sum taken rows first. -/
theorem total_columns : (∑ w, ∑ h, mag p h w) = total p := Finset.sum_comm

/-- The centroid's row, from entries weighted one by one and summed columns first. -/
theorem meanY_columns : Ideal.div (∑ w, ∑ h, mag p h w * place h) (total p) = meanY p :=
  congrArg (Ideal.div · (total p)) (weighted_rows (mag p) (fun _ _ => absf_nonneg _) place)

/-- Rounding to the nearest integer, ties to even, as both programs do it. -/
def rounded (x : EReal) : EReal := Ideal.liftRound Ideal.roundHalfEven x

end Cert.Centroid

end
-- ==== Proof.KernelRows.lean ====
/-
  The first five of the eight rows a grid point writes, at extended reals, as the total and the rounded centroid of
  each channel's plane.
-/
module

public import proofs.«01_k».proof.Proof.Centroid
public import proofs.«01_k».proof.Proof.Run

@[expose] public section

set_option maxRecDepth 16384

noncomputable section

namespace Cert.KernelIdeal.Rows

open Cert.KernelIdeal Cert.KernelIdeal.Gen Cert.KernelIdeal.Body Cert.KernelIdeal.Region Cert.KernelIdeal.Run
open Cert.Centroid
open Idealize.ShloMosaic Idealize.ShloMosaic.TcCoe

/-- Channel `c`'s plane of a one-element block. -/
def plane1 (x : FVec Ideal S1x64x128x128 .f32) (c : Fin 64) : Fin 128 → Fin 128 → Ideal .f32 :=
  fun h w => x (ix4 (0 : Fin 1) c h w)

/-- Channel `c`'s plane of batch element `b`. -/
def plane (x : FVec Ideal S16x64x128x128 .f32) (b : Fin 16) (c : Fin 64) : Fin 128 → Fin 128 → Ideal .f32 :=
  fun h w => x (ix4 b c h w)

variable (x0 x1 : FVec Ideal S1x64x128x128 .f32) (c : Fin 64)

/-- The sums a point computes of its first block are the planes' totals. -/
theorem pay7_at : k0_pay7 (F := Ideal) x0 (ix1 c) = total (plane1 x0 c) := by
  pointwise [k0_pay7, k0_pay6, k0_pay4]
  exact total_columns (plane1 x0 c)

/-- The columns it computes of its first block are the planes' rounded centroid columns. -/
theorem pay8_at : k0_pay8 (F := Ideal) x0 (ix1 c) = rounded (meanX (plane1 x0 c)) := by
  pointwise [k0_pay8, k0_pay6, k0_pay4, k0_pay3, pay7_at]
  rfl

/-- The rows it computes of its first block are the planes' rounded centroid rows. -/
theorem pay9_at : k0_pay9 (F := Ideal) x0 (ix1 c) = rounded (meanY (plane1 x0 c)) := by
  pointwise [k0_pay9, k0_pay4, k0_pay2, pay7_at]
  exact congrArg rounded (meanY_columns (plane1 x0 c))

/-- The sums a point computes of its second block are the planes' totals. -/
theorem pay12_at : k0_pay12 (F := Ideal) x1 (ix1 c) = total (plane1 x1 c) := by
  pointwise [k0_pay12, k0_pay11, k0_pay10]
  exact total_columns (plane1 x1 c)

/-- The columns it computes of its second block are the planes' rounded centroid columns. -/
theorem pay13_at : k0_pay13 (F := Ideal) x1 (ix1 c) = rounded (meanX (plane1 x1 c)) := by
  pointwise [k0_pay13, k0_pay11, k0_pay10, k0_pay3, pay12_at]
  rfl

/-- The weighted sums it computes of its second block, divided by the totals, are the planes' centroid rows. -/
theorem pay14_at : Ideal.div (k0_pay14 (F := Ideal) x1 (ix1 c)) (total (plane1 x1 c)) = meanY (plane1 x1 c) := by
  pointwise [k0_pay14, k0_pay10, k0_pay2]
  exact meanY_columns (plane1 x1 c)

/-- Row 0 holds the first block's totals. -/
theorem rows_0 : rows x0 x1 (ix3 (0 : Fin 1) (0 : Fin 8) c) = total (plane1 x0 c) := by
  pointwise [rows, k0_pay1, pay7_at]

/-- Row 1 holds the first block's rounded centroid columns. -/
theorem rows_1 : rows x0 x1 (ix3 (0 : Fin 1) (1 : Fin 8) c) = rounded (meanX (plane1 x0 c)) := by
  pointwise [rows, k0_pay1, pay8_at]

/-- Row 2 holds the first block's rounded centroid rows. -/
theorem rows_2 : rows x0 x1 (ix3 (0 : Fin 1) (2 : Fin 8) c) = rounded (meanY (plane1 x0 c)) := by
  pointwise [rows, k0_pay1, pay9_at]

/-- Row 3 holds the second block's rounded centroid columns. -/
theorem rows_3 : rows x0 x1 (ix3 (0 : Fin 1) (3 : Fin 8) c) = rounded (meanX (plane1 x1 c)) := by
  pointwise [rows, k0_pay1, pay13_at]

/-- Row 4 holds the second block's rounded centroid rows. -/
theorem rows_4 : rows x0 x1 (ix3 (0 : Fin 1) (4 : Fin 8) c) = rounded (meanY (plane1 x1 c)) := by
  pointwise [rows, k0_pay1, pay12_at, pay14_at]
  rfl

/-! ## The same of the whole arguments -/

variable (m : (ℓ : Loc nD τ sig) → Buf (Elt Ideal) ℓ) (d : Dev nD)

/-- The first window's block at batch element `b`'s point is that batch element of the first argument. -/
theorem plane_0 (b : Fin 16) : plane1 (iblk m d 0 (pt b)) c = plane (m ((d : Thread nD τ).loc main_arg0)) b c := by
  funext h w
  unfold plane1 plane
  blk_point [iblk, V, idx (pt b)]
  rfl

/-- The second window's block at batch element `b`'s point is that batch element of the second argument. -/
theorem plane_1 (b : Fin 16) : plane1 (iblk m d 1 (pt b)) c = plane (m ((d : Thread nD τ).loc main_arg1)) b c := by
  funext h w
  unfold plane1 plane
  blk_point [iblk, V, idx (pt b)]
  rfl

/-- The kernel's third result: the totals of the first argument's planes. -/
theorem totals (b : Fin 16) : rowOf (small m d) 0 (ix2 b c) = total (plane (m ((d : Thread nD τ).loc main_arg0)) b c) :=
  (rows_0 _ _ c).trans (congrArg total (plane_0 c m d b))

/-- The kernel's second result: the rounded centroids of the first argument's planes. -/
theorem centroids_0 (b : Fin 16) (k : Fin 2) : pairOf (small m d) 1 2 (ix3 b c k)
    = rounded (if (k : ℕ) < 1 then meanX (plane (m ((d : Thread nD τ).loc main_arg0)) b c)
        else meanY (plane (m ((d : Thread nD τ).loc main_arg0)) b c)) := by
  rw [apply_ite rounded]
  exact congrArg₂ (fun u v => if (k : ℕ) < 1 then u else v)
    ((rows_1 _ _ c).trans (congrArg (rounded ∘ meanX) (plane_0 c m d b)))
    ((rows_2 _ _ c).trans (congrArg (rounded ∘ meanY) (plane_0 c m d b)))

/-- The kernel's fourth result: the rounded centroids of the second argument's planes. -/
theorem centroids_1 (b : Fin 16) (k : Fin 2) : pairOf (small m d) 3 4 (ix3 b c k)
    = rounded (if (k : ℕ) < 1 then meanX (plane (m ((d : Thread nD τ).loc main_arg1)) b c)
        else meanY (plane (m ((d : Thread nD τ).loc main_arg1)) b c)) := by
  rw [apply_ite rounded]
  exact congrArg₂ (fun u v => if (k : ℕ) < 1 then u else v)
    ((rows_3 _ _ c).trans (congrArg (rounded ∘ meanX) (plane_1 c m d b)))
    ((rows_4 _ _ c).trans (congrArg (rounded ∘ meanY) (plane_1 c m d b)))

end Cert.KernelIdeal.Rows

end
-- ==== Proof.ReferenceValue.lean ====
/-
  The reference's results at extended reals, read at an index, and its run with the counters.
-/
module

public import proofs.«01_k».proof.Proof.Centroid
public import proofs.«01_k».proof.Proof.Gen.ReferenceIdeal.Run
public import Idealize.ShloMosaic.Lib.Quiescent
public import Idealize.ShloMosaic.Lib.Claim

@[expose] public section

set_option maxRecDepth 16384

noncomputable section

namespace Cert.ReferenceIdeal.Reading

open Cert.ReferenceIdeal Cert.ReferenceIdeal.Gen Cert.Centroid
open Idealize.ShloMosaic Idealize.ShloMosaic.TcCoe Idealize.SL.Sem

/-- Channel `c`'s plane of batch element `b`. -/
def plane (x : FVec Ideal S16x64x128x128 .f32) (b : Fin 16) (c : Fin 64) : Fin 128 → Fin 128 → Ideal .f32 :=
  fun h w => x (ix4 b c h w)

/-- The reference's absolute values of an argument. -/
def map (x : FVec Ideal S16x64x128x128 .f32) : FVec Ideal S16x64x128x128 .f32 := Host.absf x

/-- The reference's sums of the absolute values of an argument. -/
def sums (x : FVec Ideal S16x64x128x128 .f32) : FVec Ideal S16x64 .f32 :=
  Host.reduceAdd (Host.absf x) (constant S_ .f32 0x00000000#32) reducesTo_S16x64x128x128_S16x64_d2_3 h_S_

/-- The numbers 0 to 127. -/
def places : FVec Ideal S128 .f32 := sitofp .f32 (iotaInDim S128 32 0)

/-- The reference's centroid columns of an argument, before rounding. -/
def columns (x : FVec Ideal S16x64x128x128 .f32) : FVec Ideal S16x64 .f32 :=
  Host.divf (Host.dotGeneral dot_S16x64x128_S128_S16x64_2_0_01_n_n_n none (Host.reduceAdd (Host.absf x)
    (constant S_ .f32 0x00000000#32) reducesTo_S16x64x128x128_S16x64x128_d2 h_S_) places) (sums x)

/-- The reference's centroid rows of an argument, before rounding. -/
def lines (x : FVec Ideal S16x64x128x128 .f32) : FVec Ideal S16x64 .f32 :=
  Host.divf (Host.dotGeneral dot_S16x64x128_S128_S16x64_2_0_01_n_n_n none (Host.reduceAdd (Host.absf x)
    (constant S_ .f32 0x00000000#32) reducesTo_S16x64x128x128_S16x64x128_d3 h_S_) places) (sums x)

/-- The reference's rounded centroids of an argument. -/
def centroids (x : FVec Ideal S16x64x128x128 .f32) : FVec Ideal S16x64x2 .f32 :=
  Host.roundeven (concatenate S16x64x2 2 [⟨S16x64x1, broadcastInDim S16x64x1 ![0, 1] bcast_S16x64_S16x64x1_0_1 (columns x)⟩,
    ⟨S16x64x1, broadcastInDim S16x64x1 ![0, 1] bcast_S16x64_S16x64x1_0_1 (lines x)⟩]
    concatenates_S16x64x1_S16x64x1_S16x64x2_d2)

variable (x : FVec Ideal S16x64x128x128 .f32) (b : Fin 16) (c : Fin 64)

/-- The sums are the planes' totals. -/
theorem sums_at : sums x (ix2 b c) = total (plane x b c) := by
  pointwise [sums]
  rfl

/-- The columns are the planes' centroid columns. -/
theorem columns_at : columns x (ix2 b c) = meanX (plane x b c) := by
  pointwise [columns, places, sums_at]
  rfl

/-- The rows are the planes' centroid rows. -/
theorem lines_at : lines x (ix2 b c) = meanY (plane x b c) := by
  pointwise [lines, places, sums_at]
  rfl

/-- The centroids are the planes' rounded centroids. -/
theorem centroids_at (k : Fin 2) : centroids x (ix3 b c k)
    = rounded (if (k : ℕ) < 1 then meanX (plane x b c) else meanY (plane x b c)) := by
  pointwise [centroids, columns_at, lines_at]
  rfl

/-- What the reference ends in: its four results, and the arguments as they were. -/
def Post (m : (ℓ : Loc nD τ sig) → Buf (Elt Ideal) ℓ) (s : MemSt nD τ sig (Elt Ideal)) : Prop := ∀ d : Dev nD,
  s.mem ((d.tc : Thread nD τ).loc main_v0) = map (m ((d.tc : Thread nD τ).loc main_arg0))
  ∧ s.mem ((d.tc : Thread nD τ).loc main_v13) = centroids (m ((d.tc : Thread nD τ).loc main_arg0))
  ∧ s.mem ((d.tc : Thread nD τ).loc main_v1) = sums (m ((d.tc : Thread nD τ).loc main_arg0))
  ∧ s.mem ((d.tc : Thread nD τ).loc main_v27) = centroids (m ((d.tc : Thread nD τ).loc main_arg1))
  ∧ s.mem ((d.tc : Thread nD τ).loc main_arg0) = m ((d.tc : Thread nD τ).loc main_arg0)
  ∧ s.mem ((d.tc : Thread nD τ).loc main_arg1) = m ((d.tc : Thread nD τ).loc main_arg1)
  ∧ s.mem ((d.tc : Thread nD τ).loc main_arg2) = m ((d.tc : Thread nD τ).loc main_arg2)

/-- The reference's run: it ends in `Post`, every counter zero (the program has none). -/
theorem run (m : (ℓ : Loc nD τ sig) → Buf (Elt Ideal) ℓ) (ρ : Dev nD → PrngReg) :
    θ_run defs (onTc (τ := τ) (main (F := Ideal))) ⟨m, fun _ => 0, ρ⟩ (fun r => Post m r.2 ∧ r.2.sem = fun _ => 0) :=
  (θ_run defs _ _).mono (fun r h => ⟨h, sem_eq_zero_of_no_sems rfl r.2⟩) (Value.run m ρ)

end Cert.ReferenceIdeal.Reading

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Body
public import proofs.«01_k».proof.Proof.Region
public import proofs.«01_k».proof.Proof.Run
public import proofs.«01_k».proof.Proof.KernelFrame
public import proofs.«01_k».proof.Proof.Centroid
public import proofs.«01_k».proof.Proof.KernelRows
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The kernel read at extended reals runs to the end, leaves its arguments as they were and every counter at zero. -/
theorem frame_KernelIdeal : Cert.quiescent_KernelIdeal (hKernelIdeal := Cert.KernelIdeal.Gen.facts) := fun m g _ =>
  (θ_run _ _ _).mono (fun _ h => ⟨fun c => (h.1 c).2.2.2.2, h.2⟩) (Cert.KernelIdeal.Run.run m g)

/-- The reference read at extended reals does the same. -/
theorem frame_ReferenceIdeal : Cert.quiescent_ReferenceIdeal (hReferenceIdeal := Cert.ReferenceIdeal.Gen.facts) := fun m g _ =>
  (θ_run _ _ _).mono (fun _ h => ⟨fun c => (h.1 c).2.2.2.2, h.2⟩) (Cert.ReferenceIdeal.Reading.run m g)

/-- The reference's rounded centroids of the kernel's first argument are the kernel's second result. -/
theorem centroids_0 (m : (ℓ : Loc Cert.KernelIdeal.nD Cert.KernelIdeal.τ Cert.KernelIdeal.sig) → Buf (Elt Ideal) ℓ)
    (c : Dev Cert.KernelIdeal.nD) :
    Cert.ReferenceIdeal.Reading.centroids (m ((c.tc : Thread Cert.KernelIdeal.nD Cert.KernelIdeal.τ).loc Cert.KernelIdeal.main_arg0))
      = Cert.KernelIdeal.Run.pairOf (Cert.KernelIdeal.Region.small m c) 1 2 := by
  funext j
  idx_vars j
  exact (Cert.ReferenceIdeal.Reading.centroids_at _ _ _ _).trans (Cert.KernelIdeal.Rows.centroids_0 _ m c _ _).symm

/-- The reference's sums of the absolute values of the kernel's first argument are the kernel's third result. -/
theorem sums (m : (ℓ : Loc Cert.KernelIdeal.nD Cert.KernelIdeal.τ Cert.KernelIdeal.sig) → Buf (Elt Ideal) ℓ)
    (c : Dev Cert.KernelIdeal.nD) :
    Cert.ReferenceIdeal.Reading.sums (m ((c.tc : Thread Cert.KernelIdeal.nD Cert.KernelIdeal.τ).loc Cert.KernelIdeal.main_arg0))
      = Cert.KernelIdeal.Run.rowOf (Cert.KernelIdeal.Region.small m c) 0 := by
  funext j
  idx_vars j
  exact (Cert.ReferenceIdeal.Reading.sums_at _ _ _).trans (Cert.KernelIdeal.Rows.totals _ m c _).symm

/-- The reference's rounded centroids of the kernel's second argument are the kernel's fourth result. -/
theorem centroids_1 (m : (ℓ : Loc Cert.KernelIdeal.nD Cert.KernelIdeal.τ Cert.KernelIdeal.sig) → Buf (Elt Ideal) ℓ)
    (c : Dev Cert.KernelIdeal.nD) :
    Cert.ReferenceIdeal.Reading.centroids (m ((c.tc : Thread Cert.KernelIdeal.nD Cert.KernelIdeal.τ).loc Cert.KernelIdeal.main_arg1))
      = Cert.KernelIdeal.Run.pairOf (Cert.KernelIdeal.Region.small m c) 3 4 := by
  funext j
  idx_vars j
  exact (Cert.ReferenceIdeal.Reading.centroids_at _ _ _ _).trans (Cert.KernelIdeal.Rows.centroids_1 _ m c _ _).symm

/-- From the same arguments the two programs end in the same four results. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => Cert.KernelIdeal.Region.big m c, fun c => Cert.KernelIdeal.Run.pairOf (Cert.KernelIdeal.Region.small m c) 1 2,
    fun c => Cert.KernelIdeal.Run.rowOf (Cert.KernelIdeal.Region.small m c) 0,
    fun c => Cert.KernelIdeal.Run.pairOf (Cert.KernelIdeal.Region.small m c) 3 4,
    (θ_run _ _ _).mono (fun _ h => h.1) (Cert.KernelIdeal.Run.run m g),
    (θ_run _ _ _).mono (fun _ h c => by
      obtain ⟨h0, h1, h2, h3, hrest⟩ := h.1 c
      obtain ⟨e0, e1, -⟩ := hargs c
      exact ⟨h0.trans (congrArg Cert.ReferenceIdeal.Reading.map e0),
        h1.trans ((congrArg Cert.ReferenceIdeal.Reading.centroids e0).trans (centroids_0 m c)),
        h2.trans ((congrArg Cert.ReferenceIdeal.Reading.sums e0).trans (sums m c)),
        h3.trans ((congrArg Cert.ReferenceIdeal.Reading.centroids e1).trans (centroids_1 m c)), hrest⟩)
      (Cert.ReferenceIdeal.Reading.run m' g')⟩

/-- All five claims. -/
theorem claim : Cert.Claim := ⟨Cert.Kernel.Gen.facts, Cert.KernelIdeal.Gen.facts, Cert.ReferenceIdeal.Gen.facts,
  Cert.Kernel.Frame.frame, frame_KernelIdeal, frame_ReferenceIdeal, trivial, algebraic⟩

end Cert.Proof

end
